-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_conv_pattern [hPre_conv_pattern : Cert.Pre_conv_pattern.Facts] (m : (ℓ : Loc Cert.KernelIdeal.nD Cert.KernelIdeal.τ Cert.KernelIdeal.sig) → Buf (Elt Ideal) ℓ) : Prop :=
  ∀ c : Dev Cert.KernelIdeal.nD,
    (Cert.Pre_conv_pattern.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_conv_pattern [hPre_conv_pattern : Cert.Pre_conv_pattern.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_conv_pattern.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_conv_pattern [hKernelIdeal : Cert.KernelIdeal.Facts] [hPre_conv_pattern : Cert.Pre_conv_pattern.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conv_pattern m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_conv_pattern [hReferenceIdeal : Cert.ReferenceIdeal.Facts] [hPre_conv_pattern : Cert.Pre_conv_pattern.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_conv_pattern m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_conv_pattern [hKernelIdeal : Cert.KernelIdeal.Facts] [hReferenceIdeal : Cert.ReferenceIdeal.Facts] [hPre_conv_pattern : Cert.Pre_conv_pattern.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_conv_pattern m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_conv_pattern : Cert.Pre_conv_pattern.Facts),
    quiescent_Kernel (hKernel := hKernel)
    ∧ quiescent_KernelIdeal (hKernelIdeal := hKernelIdeal)
    ∧ quiescent_KernelIdeal_pre_conv_pattern (hKernelIdeal := hKernelIdeal) (hPre_conv_pattern := hPre_conv_pattern)
    ∧ quiescent_ReferenceIdeal (hReferenceIdeal := hReferenceIdeal)
    ∧ quiescent_ReferenceIdeal_pre_conv_pattern (hReferenceIdeal := hReferenceIdeal) (hPre_conv_pattern := hPre_conv_pattern)
    ∧ preserves_Kernel_KernelIdeal
    ∧ algebraic_KernelIdeal_ReferenceIdeal_pre_conv_pattern (hKernelIdeal := hKernelIdeal) (hReferenceIdeal := hReferenceIdeal) (hPre_conv_pattern := hPre_conv_pattern)
-- ==== Pre_conv_pattern.lean ====
abbrev S32x8x32x32 : Shape := ⟨4, ![32, 8, 32, 32]⟩
abbrev S1152 : Shape := ⟨1, ![1152]⟩
abbrev S16 : Shape := ⟨1, ![16]⟩
abbrev S1036800 : Shape := ⟨1, ![1036800]⟩
abbrev S16x30x30x8x3x3 : Shape := ⟨6, ![16, 30, 30, 8, 3, 3]⟩
abbrev S_ : Shape := ⟨0, ![]⟩

class Facts : Prop where
  bcast_S_S16x30x30x8x3x3 : S_.BroadcastsInDim S16x30x30x8x3x3 (![] : Fin 0 → Fin S16x30x30x8x3x3.rank)
  shapeCasts_S16x30x30x8x3x3_S1036800 : S16x30x30x8x3x3.ShapeCasts S1036800
  reducesTo_S1036800_S_d0 : S1036800.ReducesTo [0] S_
  h_S_ : 0 < S_.numel

variable [Facts]

def fn_part2 {F : FTy → Type} [FloatOps F] (main_v36 : IVec S_ 1) (main_v37 : IVec S1036800 1) (main_c_8 : IVec S_ 1) : IVec S_ 1 :=
  let main_v38 : IVec S_ 1 := (fun x v => Host.reduce IntOp.andi x v reducesTo_S1036800_S_d0 h_S_) main_v37 main_c_8
  let main_v39 : IVec S_ 1 := andi main_v36 main_v38
  main_v39

def fn_part1 {F : FTy → Type} [FloatOps F] (main_arg3 : IVec S1036800 32) (main_arg4 : IVec S1036800 32) (main_arg5 : IVec S1036800 32) (main_v0 : IVec S16x30x30x8x3x3 32) (main_v2 : IVec S16x30x30x8x3x3 32) (main_v3 : IVec S16x30x30x8x3x3 32) (main_v4 : IVec S16x30x30x8x3x3 32) (main_v5 : IVec S16x30x30x8x3x3 32) (main_v14 : IVec S1036800 32) (main_v19 : IVec S16x30x30x8x3x3 32) : IVec S_ 1 :=
  let main_v20 : IVec S16x30x30x8x3x3 32 := addi main_v19 main_v2
  let main_v21 : IVec S1036800 32 := shapeCast S1036800 main_v20 shapeCasts_S16x30x30x8x3x3_S1036800
  let main_c_3 : IVec S_ 32 := constantI S_ 32 3#32
  let main_v22 : IVec S16x30x30x8x3x3 32 := broadcastInDim S16x30x30x8x3x3 ![] bcast_S_S16x30x30x8x3x3 main_c_3
  let main_v23 : IVec S16x30x30x8x3x3 32 := muli main_v4 main_v22
  let main_v24 : IVec S16x30x30x8x3x3 32 := addi main_v23 main_v5
  let main_c_4 : IVec S_ 32 := constantI S_ 32 8#32
  let main_v25 : IVec S16x30x30x8x3x3 32 := broadcastInDim S16x30x30x8x3x3 ![] bcast_S_S16x30x30x8x3x3 main_c_4
  let main_v26 : IVec S16x30x30x8x3x3 32 := muli main_v25 main_v0
  let main_v27 : IVec S16x30x30x8x3x3 32 := addi main_v3 main_v26
  let main_c_5 : IVec S_ 32 := constantI S_ 32 9#32
  let main_v28 : IVec S16x30x30x8x3x3 32 := broadcastInDim S16x30x30x8x3x3 ![] bcast_S_S16x30x30x8x3x3 main_c_5
  let main_v29 : IVec S16x30x30x8x3x3 32 := muli main_v27 main_v28
  let main_v30 : IVec S16x30x30x8x3x3 32 := addi main_v24 main_v29
  let main_v31 : IVec S1036800 32 := shapeCast S1036800 main_v30 shapeCasts_S16x30x30x8x3x3_S1036800
  let main_v32 : IVec S1036800 1 := cmpi .eq main_arg3 main_v14
  let main_c_6 : IVec S_ 1 := constantI S_ 1 1#1
  let main_v33 : IVec S_ 1 := (fun x v => Host.reduce IntOp.andi x v reducesTo_S1036800_S_d0 h_S_) main_v32 main_c_6
  let main_v34 : IVec S1036800 1 := cmpi .eq main_arg4 main_v21
  let main_c_7 : IVec S_ 1 := constantI S_ 1 1#1
  let main_v35 : IVec S_ 1 := (fun x v => Host.reduce IntOp.andi x v reducesTo_S1036800_S_d0 h_S_) main_v34 main_c_7
  let main_v36 : IVec S_ 1 := andi main_v33 main_v35
  let main_v37 : IVec S1036800 1 := cmpi .eq main_arg5 main_v31
  let main_c_8 : IVec S_ 1 := constantI S_ 1 1#1
  fn_part2 (F := F) main_v36 main_v37 main_c_8

def fn {F : FTy → Type} [FloatOps F] (main_arg0 : FVec F S32x8x32x32 .f32) (main_arg1 : FVec F S1152 .f32) (main_arg2 : FVec F S16 .f32) (main_arg3 : IVec S1036800 32) (main_arg4 : IVec S1036800 32) (main_arg5 : IVec S1036800 32) : IVec S_ 1 :=
  let main_v0 : IVec S16x30x30x8x3x3 32 := iotaInDim S16x30x30x8x3x3 32 0
  let main_v1 : IVec S16x30x30x8x3x3 32 := iotaInDim S16x30x30x8x3x3 32 1
  let main_v2 : IVec S16x30x30x8x3x3 32 := iotaInDim S16x30x30x8x3x3 32 2
  let main_v3 : IVec S16x30x30x8x3x3 32 := iotaInDim S16x30x30x8x3x3 32 3
  let main_v4 : IVec S16x30x30x8x3x3 32 := iotaInDim S16x30x30x8x3x3 32 4
  let main_v5 : IVec S16x30x30x8x3x3 32 := iotaInDim S16x30x30x8x3x3 32 5
  let main_v6 : IVec S16x30x30x8x3x3 32 := addi main_v1 main_v4
  let main_c : IVec S_ 32 := constantI S_ 32 32#32
  let main_v7 : IVec S16x30x30x8x3x3 32 := broadcastInDim S16x30x30x8x3x3 ![] bcast_S_S16x30x30x8x3x3 main_c
  let main_v8 : IVec S16x30x30x8x3x3 32 := muli main_v6 main_v7
  let main_v9 : IVec S16x30x30x8x3x3 32 := addi main_v8 main_v2
  let main_c_0 : IVec S_ 32 := constantI S_ 32 1024#32
  let main_v10 : IVec S16x30x30x8x3x3 32 := broadcastInDim S16x30x30x8x3x3 ![] bcast_S_S16x30x30x8x3x3 main_c_0
  let main_v11 : IVec S16x30x30x8x3x3 32 := muli main_v3 main_v10
  let main_v12 : IVec S16x30x30x8x3x3 32 := addi main_v9 main_v11
  let main_v13 : IVec S16x30x30x8x3x3 32 := addi main_v12 main_v5
  let main_v14 : IVec S1036800 32 := shapeCast S1036800 main_v13 shapeCasts_S16x30x30x8x3x3_S1036800
  let main_c_1 : IVec S_ 32 := constantI S_ 32 900#32
  let main_v15 : IVec S16x30x30x8x3x3 32 := broadcastInDim S16x30x30x8x3x3 ![] bcast_S_S16x30x30x8x3x3 main_c_1
  let main_v16 : IVec S16x30x30x8x3x3 32 := muli main_v0 main_v15
  let main_c_2 : IVec S_ 32 := constantI S_ 32 30#32
  let main_v17 : IVec S16x30x30x8x3x3 32 := broadcastInDim S16x30x30x8x3x3 ![] bcast_S_S16x30x30x8x3x3 main_c_2
  let main_v18 : IVec S16x30x30x8x3x3 32 := muli main_v1 main_v17
  let main_v19 : IVec S16x30x30x8x3x3 32 := addi main_v16 main_v18
  fn_part1 (F := F) main_arg3 main_arg4 main_arg5 main_v0 main_v2 main_v3 main_v4 main_v5 main_v14 main_v19
-- ==== Kernel.lean ====
abbrev S32x8x32x32 : Shape := ⟨4, ![32, 8, 32, 32]⟩
abbrev S1152 : Shape := ⟨1, ![1152]⟩
abbrev S16 : Shape := ⟨1, ![16]⟩
abbrev S1036800 : Shape := ⟨1, ![1036800]⟩
abbrev S32x8x1024 : Shape := ⟨3, ![32, 8, 1024]⟩
abbrev S_ : Shape := ⟨0, ![]⟩
abbrev S32x8x1152 : Shape := ⟨3, ![32, 8, 1152]⟩
abbrev S16x8x9 : Shape := ⟨3, ![16, 8, 9]⟩
abbrev S16x9x8 : Shape := ⟨3, ![16, 9, 8]⟩
abbrev S16x72 : Shape := ⟨2, ![16, 72]⟩
abbrev S16x1 : Shape := ⟨2, ![16, 1]⟩
abbrev S32x16x960 : Shape := ⟨3, ![32, 16, 960]⟩
abbrev S1x8x1152 : Shape := ⟨3, ![1, 8, 1152]⟩
abbrev S1x16x960 : Shape := ⟨3, ![1, 16, 960]⟩
abbrev S8x1152 : Shape := ⟨2, ![8, 1152]⟩
abbrev S8x960 : Shape := ⟨2, ![8, 960]⟩
abbrev S72x960 : Shape := ⟨2, ![72, 960]⟩
abbrev S16x960 : Shape := ⟨2, ![16, 960]⟩
abbrev S32x16x30x32 : Shape := ⟨4, ![32, 16, 30, 32]⟩
abbrev S32x16x30x30 : Shape := ⟨4, ![32, 16, 30, 30]⟩

abbrev nBuf : Space → Nat
  | .hbm => 17
  | .vmem => 6
  | .smem => 0
  | _ => 0

abbrev bufTy : (tb : Table) → Fin (tcTables nBuf tb) → BufTy
  | .hbm, ⟨0, _⟩ => ⟨S32x8x32x32, .f32⟩
  | .hbm, ⟨1, _⟩ => ⟨S1152, .f32⟩
  | .hbm, ⟨2, _⟩ => ⟨S16, .f32⟩
  | .hbm, ⟨3, _⟩ => ⟨S1036800, .i32⟩
  | .hbm, ⟨4, _⟩ => ⟨S1036800, .i32⟩
  | .hbm, ⟨5, _⟩ => ⟨S1036800, .i32⟩
  | .hbm, ⟨6, _⟩ => ⟨S32x8x1024, .f32⟩
  | .hbm, ⟨7, _⟩ => ⟨S_, .i32⟩
  | .hbm, ⟨8, _⟩ => ⟨S_, .f32⟩
  | .hbm, ⟨9, _⟩ => ⟨S32x8x1152, .f32⟩
  | .hbm, ⟨10, _⟩ => ⟨S16x8x9, .f32⟩
  | .hbm, ⟨11, _⟩ => ⟨S16x9x8, .f32⟩
  | .hbm, ⟨12, _⟩ => ⟨S16x72, .f32⟩
  | .hbm, ⟨13, _⟩ => ⟨S16x1, .f32⟩
  | .hbm, ⟨14, _⟩ => ⟨S32x16x960, .f32⟩
  | .hbm, ⟨15, _⟩ => ⟨S32x16x30x32, .f32⟩
  | .hbm, ⟨16, _⟩ => ⟨S32x16x30x30, .f32⟩
  | .local _ .vmem, ⟨0, _⟩ => ⟨S1x8x1152, .f32⟩
  | .local _ .vmem, ⟨1, _⟩ => ⟨S1x8x1152, .f32⟩
  | .local _ .vmem, ⟨2, _⟩ => ⟨S16x72, .f32⟩
  | .local _ .vmem, ⟨3, _⟩ => ⟨S16x1, .f32⟩
  | .local _ .vmem, ⟨4, _⟩ => ⟨S1x16x960, .f32⟩
  | .local _ .vmem, ⟨5, _⟩ => ⟨S1x16x960, .f32⟩
  | _, _ => ⟨S32x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x8x32x32 : Shape := ⟨4, ![32, 8, 32, 32]⟩
abbrev S1152 : Shape := ⟨1, ![1152]⟩
abbrev S16 : Shape := ⟨1, ![16]⟩
abbrev S1036800 : Shape := ⟨1, ![1036800]⟩
abbrev S32x8192 : Shape := ⟨2, ![32, 8192]⟩
abbrev S_ : Shape := ⟨0, ![]⟩
abbrev S1036800x1 : Shape := ⟨2, ![1036800, 1]⟩
abbrev S1 : Shape := ⟨1, ![1]⟩
abbrev S1x1 : Shape := ⟨2, ![1, 1]⟩
abbrev S32x1036800 : Shape := ⟨2, ![32, 1036800]⟩
abbrev S1x1036800 : Shape := ⟨2, ![1, 1036800]⟩
abbrev S32x14400 : Shape := ⟨2, ![32, 14400]⟩
abbrev S32x16x30x30 : Shape := ⟨4, ![32, 16, 30, 30]⟩
abbrev S1x16x1x1 : Shape := ⟨4, ![1, 16, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32x8x32x32, .f32⟩
  | .hbm, ⟨1, _⟩ => ⟨S1152, .f32⟩
  | .hbm, ⟨2, _⟩ => ⟨S16, .f32⟩
  | .hbm, ⟨3, _⟩ => ⟨S1036800, .i32⟩
  | .hbm, ⟨4, _⟩ => ⟨S1036800, .i32⟩
  | .hbm, ⟨5, _⟩ => ⟨S1036800, .i32⟩
  | .hbm, ⟨6, _⟩ => ⟨S32x8192, .f32⟩
  | .hbm, ⟨7, _⟩ => ⟨S_, .i32⟩
  | .hbm, ⟨8, _⟩ => ⟨S1036800, .i32⟩
  | .hbm, ⟨9, _⟩ => ⟨S1036800, .i1⟩
  | .hbm, ⟨10, _⟩ => ⟨S_, .i32⟩
  | .hbm, ⟨11, _⟩ => ⟨S1036800, .i32⟩
  | .hbm, ⟨12, _⟩ => ⟨S1036800, .i32⟩
  | .hbm, ⟨13, _⟩ => ⟨S1036800, .i32⟩
  | .hbm, ⟨14, _⟩ => ⟨S1036800x1, .i32⟩
  | .hbm, ⟨15, _⟩ => ⟨S1, .i32⟩
  | .hbm, ⟨16, _⟩ => ⟨S_, .i32⟩
  | .hbm, ⟨17, _⟩ => ⟨S1036800x1, .i32⟩
  | .hbm, ⟨18, _⟩ => ⟨S1036800x1, .i1⟩
  | .hbm, ⟨19, _⟩ => ⟨S1x1, .i32⟩
  | .hbm, ⟨20, _⟩ => ⟨S1036800x1, .i32⟩
  | .hbm, ⟨21, _⟩ => ⟨S1036800x1, .i1⟩
  | .hbm, ⟨22, _⟩ => ⟨S1036800x1, .i1⟩
  | .hbm, ⟨23, _⟩ => ⟨S_, .i1⟩
  | .hbm, ⟨24, _⟩ => ⟨S1036800, .i1⟩
  | .hbm, ⟨25, _⟩ => ⟨S1036800, .f32⟩
  | .hbm, ⟨26, _⟩ => ⟨S_, .f32⟩
  | .hbm, ⟨27, _⟩ => ⟨S1036800, .f32⟩
  | .hbm, ⟨28, _⟩ => ⟨S1036800, .f32⟩
  | .hbm, ⟨29, _⟩ => ⟨S_, .i32⟩
  | .hbm, ⟨30, _⟩ => ⟨S1036800, .i32⟩
  | .hbm, ⟨31, _⟩ => ⟨S1036800, .i1⟩
  | .hbm, ⟨32, _⟩ => ⟨S_, .i32⟩
  | .hbm, ⟨33, _⟩ => ⟨S1036800, .i32⟩
  | .hbm, ⟨34, _⟩ => ⟨S1036800, .i32⟩
  | .hbm, ⟨35, _⟩ => ⟨S1036800, .i32⟩
  | .hbm, ⟨36, _⟩ => ⟨S1036800x1, .i32⟩
  | .hbm, ⟨37, _⟩ => ⟨S1, .i32⟩
  | .hbm, ⟨38, _⟩ => ⟨S_, .i32⟩
  | .hbm, ⟨39, _⟩ => ⟨S1036800x1, .i32⟩
  | .hbm, ⟨40, _⟩ => ⟨S1036800x1, .i1⟩
  | .hbm, ⟨41, _⟩ => ⟨S1x1, .i32⟩
  | .hbm, ⟨42, _⟩ => ⟨S1036800x1, .i32⟩
  | .hbm, ⟨43, _⟩ => ⟨S1036800x1, .i1⟩
  | .hbm, ⟨44, _⟩ => ⟨S1036800x1, .i1⟩
  | .hbm, ⟨45, _⟩ => ⟨S_, .i1⟩
  | .hbm, ⟨46, _⟩ => ⟨S1036800, .i1⟩
  | .hbm, ⟨47, _⟩ => ⟨S32x1036800, .f32⟩
  | .hbm, ⟨48, _⟩ => ⟨S32x1036800, .i1⟩
  | .hbm, ⟨49, _⟩ => ⟨S_, .f32⟩
  | .hbm, ⟨50, _⟩ => ⟨S32x1036800, .f32⟩
  | .hbm, ⟨51, _⟩ => ⟨S32x1036800, .f32⟩
  | .hbm, ⟨52, _⟩ => ⟨S1x1036800, .f32⟩
  | .hbm, ⟨53, _⟩ => ⟨S32x1036800, .f32⟩
  | .hbm, ⟨54, _⟩ => ⟨S32x1036800, .f32⟩
  | .hbm, ⟨55, _⟩ => ⟨S_, .f32⟩
  | .hbm, ⟨56, _⟩ => ⟨S32x14400, .f32⟩
  | .hbm, ⟨57, _⟩ => ⟨S_, .i32⟩
  | .hbm, ⟨58, _⟩ => ⟨S1036800, .i32⟩
  | .hbm, ⟨59, _⟩ => ⟨S1036800, .i1⟩
  | .hbm, ⟨60, _⟩ => ⟨S_, .i32⟩
  | .hbm, ⟨61, _⟩ => ⟨S1036800, .i32⟩
  | .hbm, ⟨62, _⟩ => ⟨S1036800, .i32⟩
  | .hbm, ⟨63, _⟩ => ⟨S1036800, .i32⟩
  | .hbm, ⟨64, _⟩ => ⟨S1036800x1, .i32⟩
  | .hbm, ⟨65, _⟩ => ⟨S32x14400, .f32⟩
  | .hbm, ⟨66, _⟩ => ⟨S32x16x30x30, .f32⟩
  | .hbm, ⟨67, _⟩ => ⟨S1x16x1x1, .f32⟩
  | .hbm, ⟨68, _⟩ => ⟨S32x16x30x30, .f32⟩
  | .hbm, ⟨69, _⟩ => ⟨S32x16x30x30, .f32⟩
  | _, _ => ⟨S32x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_cst : Ref sig .tc := ⟨.hbm, 55, rfl⟩
abbrev main_v6 : Ref sig .tc := ⟨.hbm, 56, rfl⟩
abbrev main_c : Ref sig .tc := ⟨.hbm, 57, rfl⟩
abbrev main_v7 : Ref sig .tc := ⟨.hbm, 58, rfl⟩
abbrev main_v8 : Ref sig .tc := ⟨.hbm, 59, rfl⟩
abbrev main_c_0 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩

abbrev nD : Nat := 1
abbrev τ : Topo := Topo.v7x

variable {F : FTy → Type} [FloatOps F]
-- ==== Proof.Payload.lean ====
module

public import proofs.«01_k».proof.Proof.Gen.KernelIdeal.Skeleton
public import Idealize.ShloMosaic.Lib.Pointwise
public import Idealize.ShloMosaic.Lib.Pipeline.ValueKit

@[expose] public section

set_option maxRecDepth 16384

noncomputable section

/-! What one grid point stores: at output channel `y` and position `q` of the flat image, the nine shifted
    slices of the image against the nine by eight weights of the channel, plus the bias. -/

namespace Cert.KernelIdeal.Value

open Cert.KernelIdeal Cert.KernelIdeal.Gen Idealize.ShloMosaic

theorem pay_apply (x : FVec Ideal S1x8x1152 .f32) (w : FVec Ideal S16x72 .f32) (b : FVec Ideal S16x1 .f32)
    (y : Fin 16) (q : Fin 960) :
    k0_pay1 x w b (ix3 0 y q)
      = (∑ s : Fin 9, ∑ c : Fin 8, w (ix2 y ⟨s.val * 8 + c.val, by omega⟩)
          * x (ix3 0 c ⟨q.val + (s.val / 3 * 32 + s.val % 3), by omega⟩)) + b (ix2 y 0) := by
  pointwise [k0_pay1]
  congr 1
  refine (Fin.sum_mul_add_congr (S := 9) (n := 8) fun s c hl => ?_).symm
  congr 1
  dsimp only
  have hs := s.isLt
  have hc := c.isLt
  have read : ∀ (a a' : Fin 8) (b b' : Fin 1152), a.val = a'.val → b.val = b'.val → x (ix3 0 a b) = x (ix3 0 a' b') :=
    fun a a' b b' h h' => by rw [Fin.ext h, Fin.ext h']
  split_ifs <;> (apply read <;> dsimp only <;> omega)

end Cert.KernelIdeal.Value

end
-- ==== Proof.Spec.lean ====
module

public import Idealize.ShloMosaic.Lib.Pointwise

@[expose] public section

noncomputable section

/-! The convolution that both programs compute, by its coordinates. -/

namespace Cert.Conv

open Idealize.ShloMosaic

/-- One product of the convolution: at image `b`, output channel `y` and output position `(i, j)`, the window
    position `s` (row `s / 3`, column `s % 3`) of input channel `c`. -/
def term (x : (⟨4, ![32, 8, 32, 32]⟩ : Shape).Idx → EReal) (w : (⟨1, ![1152]⟩ : Shape).Idx → EReal)
    (b : Fin 32) (y : Fin 16) (i j : Fin 30) (s : Fin 9) (c : Fin 8) : EReal :=
  x (ix4 b c ⟨i.val + s.val / 3, by omega⟩ ⟨j.val + s.val % 3, by omega⟩)
    * w (ix1 ⟨(8 * y.val + c.val) * 9 + s.val, by omega⟩)

/-- The convolution at one output element: the seventy-two products and the channel's bias. -/
def conv (x : (⟨4, ![32, 8, 32, 32]⟩ : Shape).Idx → EReal) (w : (⟨1, ![1152]⟩ : Shape).Idx → EReal)
    (bias : (⟨1, ![16]⟩ : Shape).Idx → EReal) (b : Fin 32) (y : Fin 16) (i j : Fin 30) : EReal :=
  (∑ s : Fin 9, ∑ c : Fin 8, term x w b y i j s c) + bias (ix1 y)

end Cert.Conv

end
-- ==== Proof.KernelValue.lean ====
module

public import proofs.«01_k».proof.Proof.Gen.KernelIdeal.Frame
public import proofs.«01_k».proof.Proof.Payload
public import proofs.«01_k».proof.Proof.Spec

@[expose] public section

set_option maxRecDepth 16384

noncomputable section

/-! The kernel's result, element by element: the blocks its grid points store tile the region's output array, and
    the host lines around the region only move elements. -/

namespace Cert.KernelIdeal.Value

open Cert.KernelIdeal Cert.KernelIdeal.Gen Idealize.ShloMosaic Idealize.ShloMosaic.TcCoe Idealize.SL.Sem
open Idealize.ShloMosaic.Pipeline

variable (m : (ℓ : Loc nD τ sig) → Buf (Elt Ideal) ℓ)

/-- The image the region is given. -/
def image (c : Dev nD) : S32x8x1152.Idx → EReal := V m c main_v1
/-- The weights the region is given. -/
def weights (c : Dev nD) : S16x72.Idx → EReal := V m c main_v4
/-- The bias the region is given, a column. -/
def biasCol (c : Dev nD) : S16x1.Idx → EReal := V m c main_v5

/-- The image is the argument flattened, then lengthened by 128. -/
theorem image_apply (c : Dev nD) (b : Fin 32) (ch : Fin 8) (r k : Fin 32) (p : Fin 1152) (hp : p.val = r.val * 32 + k.val) :
    image m c (ix3 b ch p) = m ((c.tc : Thread nD τ).loc main_arg0) (ix4 b ch r k) := by
  unfold image V V0
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  pointwise
  rw [dif_pos (by omega)]
  have hr : (⟨p.val / 32, by omega⟩ : Fin 32) = r := Fin.ext (by dsimp only; omega)
  have hk : (⟨p.val % 32, by omega⟩ : Fin 32) = k := Fin.ext (by dsimp only; omega)
  rw [hr, hk]

/-- The weights are laid out per output channel, window position by window position. -/
theorem weights_apply (c : Dev nD) (y : Fin 16) (s : Fin 9) (ch : Fin 8) :
    weights m c (ix2 y ⟨s.val * 8 + ch.val, by omega⟩)
      = m ((c.tc : Thread nD τ).loc main_arg1) (ix1 ⟨(8 * y.val + ch.val) * 9 + s.val, by omega⟩) := by
  unfold weights V V0
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  pointwise
  have e : (⟨y.val * 72 + ch.val * 9 + s.val, by omega⟩ : Fin 1152) = ⟨(8 * y.val + ch.val) * 9 + s.val, by omega⟩ :=
    Fin.ext (by dsimp only; omega)
  rw [e]

/-- The bias column is the argument. -/
theorem bias_apply (c : Dev nD) (y : Fin 16) :
    biasCol m c (ix2 y 0) = m ((c.tc : Thread nD τ).loc main_arg2) (ix1 y) := by
  unfold biasCol V V0
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp
  pointwise

/-- The region's output array after the run. -/
def regionOut (c : Dev nD) : S32x16x960.Idx → EReal := fun j =>
  (∑ s : Fin 9, ∑ ch : Fin 8, weights m c (ix2 (j 1) ⟨s.val * 8 + ch.val, by omega⟩)
      * image m c (ix3 (j 0) ch ⟨(j 2).val + (s.val / 3 * 32 + s.val % 3), by
          have h : (j 2).val < 960 := (j 2).isLt
          omega⟩))
    + biasCol m c (ix2 (j 1) 0)

theorem idx0 : ∀ t : Fin grid0.N, win0_0.index t = ![(grid0.coords t 0).val, 0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![(grid0.coords t 0).val, 0, 0] := by decide +kernel

/-- Grid point `t` reads image `t`, -/
theorem blk_image (c : Dev nD) (t : Fin cfg0.N) (ch : Fin 8) (p : Fin 1152) :
    (iblk m c 0 t : S1x8x1152.Idx → EReal) (ix3 0 ch p) = image m c (ix3 (grid0.coords t 0) ch p) := by
  unfold image
  blk_ext [iblk, idx0 t]
/-- all the weights -/
theorem blk_weights (c : Dev nD) (t : Fin cfg0.N) (y : Fin 16) (k : Fin 72) :
    (iblk m c 1 t : S16x72.Idx → EReal) (ix2 y k) = weights m c (ix2 y k) := by
  unfold weights
  blk_ext [iblk, idx1 t]
/-- and all of the bias. -/
theorem blk_bias (c : Dev nD) (t : Fin cfg0.N) (y : Fin 16) :
    (iblk m c 2 t : S16x1.Idx → EReal) (ix2 y 0) = biasCol m c (ix2 y 0) := by
  unfold biasCol
  blk_ext [iblk, idx2 t]

/-- The blocks tile the output array: at every position, what its grid point stores there. -/
theorem region_value (c : Dev nD) : (dats m 0 c).arrAt 3 (cfgs 0).N = regionOut m c := by
  refine (dats m 0 c).arrAt_eq_of_covers 3 _ (by decide +kernel) fun t hf y => ?_
  blk_simp
  rw [after0_3]
  frame_out
  have e := pay_apply (iblk m c 0 t) (iblk m c 1 t) (iblk m c 2 t) (y 1) (y 2)
  have hy : (y : S1x16x960.Idx) = ix3 0 (y 1) (y 2) := by
    rw [eq_ix3 (y : S1x16x960.Idx)]
    exact congrArg (fun z => ix3 z (y 1) (y 2)) (Subsingleton.elim (α := Fin 1) _ _)
  have hE : (((View.whole main_v6).slice (win0_3.rect t)).emb y : S32x16x960.Idx)
      = ix3 (grid0.coords t 0) (y 1) (y 2) := by
    blk_ext [idx3 t]
  refine (congrArg (k0_pay1 (iblk m c 0 t) (iblk m c 1 t) (iblk m c 2 t)) hy).trans (e.trans ?_)
  refine Eq.trans ?_ (congrArg (regionOut m c) hE).symm
  unfold regionOut
  refine congrArg₂ (· + ·) (Finset.sum_congr rfl fun s _ => Finset.sum_congr rfl fun ch _ => ?_) (blk_bias m c t _)
  exact congrArg₂ (· * ·) (blk_weights m c t _ _) (blk_image m c t _ _)

/-- The region's output at a position that the result keeps is the convolution there. -/
theorem regionOut_apply (c : Dev nD) (b : Fin 32) (y : Fin 16) (i j : Fin 30) :
    regionOut m c (ix3 b y ⟨i.val * 32 + j.val, by omega⟩)
      = Conv.conv (m ((c.tc : Thread nD τ).loc main_arg0)) (m ((c.tc : Thread nD τ).loc main_arg1))
          (m ((c.tc : Thread nD τ).loc main_arg2)) b y i j := by
  unfold regionOut Conv.conv Conv.term
  refine congrArg₂ (· + ·) (Finset.sum_congr rfl fun s _ => Finset.sum_congr rfl fun ch _ => ?_) (bias_apply m c y)
  refine (congrArg₂ (· * ·) (weights_apply m c y s ch)
    (image_apply m c b ch ⟨i.val + s.val / 3, by omega⟩ ⟨j.val + s.val % 3, by omega⟩ _ ?_)).trans (mul_comm _ _)
  show i.val * 32 + j.val + (s.val / 3 * 32 + s.val % 3) = (i.val + s.val / 3) * 32 + (j.val + s.val % 3)
  omega

/-- The result buffer after the last host lines, from the region's output array. -/
theorem tail_value (c : Dev nD) (b : Fin 32) (y : Fin 16) (i j : Fin 30) :
    (afterTail₀ cfgs (dats m) 0 (V0 m) [hostOps1] c main_v8 : S32x16x30x30.Idx → EReal) (ix4 b y i j)
      = Conv.conv (m ((c.tc : Thread nD τ).loc main_arg0)) (m ((c.tc : Thread nD τ).loc main_arg1))
          (m ((c.tc : Thread nD τ).loc main_arg2)) b y i j := by
  rw [← regionOut_apply, ← region_value]
  unfold afterTail₀
  simp only [hostOps1, List.flatten_cons, List.flatten_nil, List.append_nil]
  after_results_simp
  pointwise
  exact congrFun (withArrays_arr (cfgs 0).spec launch0.win.arr_inj c (V0 m c) (fun w => (dats m 0 c).arrAt w (cfgs 0).N) 3) _

end Cert.KernelIdeal.Value

end
-- ==== Proof.Moves.lean ====
module

public import proofs.«01_k».proof.Proof.Gen.ReferenceIdeal
public import Idealize.ShloMosaic.Lib.Pointwise
public import Idealize.ShloMosaic.Lib.ReduceAll

@[expose] public section

set_option maxRecDepth 16384

noncomputable section

/-! Where the reference's two gathers read and where its scatter writes, by coordinates. -/

namespace Cert.ReferenceIdeal.Value

open Cert.ReferenceIdeal Cert.ReferenceIdeal.Gen Idealize.ShloMosaic

/-- Update row `n` reads its start word at row `n` of the one-column list. -/
theorem gatherImage_siIdx (b : Fin 32) (n : Fin 1036800)
    (k : Fin gather_S32x8192_S1036800x1_S32x1036800_0_1_n_n_1_1_321.startIndexMap.length) :
    gather_S32x8192_S1036800x1_S32x1036800_0_1_n_n_1_1_321.siIdx (ix2 b n) k = ix2 n 0 := by
  funext a
  match a with
  | ⟨0, _⟩ => rfl
  | ⟨1, _⟩ => exact Subsingleton.elim (α := Fin 1) _ _

/-- A start word in range is where the gather of image elements reads. -/
theorem gatherImage_apply (x : S32x8192.Idx → EReal) (idx : IVec S1036800x1 32) (b : Fin 32) (n : Fin 1036800) (k : Nat)
    (hk : k < 8192) (h : (idx (ix2 n 0)).toInt = k) :
    Host.gather gather_S32x8192_S1036800x1_S32x1036800_0_1_n_n_1_1_321 x idx (ix2 b n) = x (ix2 b ⟨k, hk⟩) := by
  unfold Host.gather
  congr 1
  funext a
  match a with
  | ⟨0, _⟩ =>
    apply Fin.ext
    show 0 + 0 + b.val = b.val
    omega
  | ⟨1, _⟩ =>
    apply Fin.ext
    show min (idx (gather_S32x8192_S1036800x1_S32x1036800_0_1_n_n_1_1_321.siIdx (ix2 b n) _)).toInt.toNat (8192 - 1) + 0 + 0 = k
    rw [gatherImage_siIdx, h]
    omega

/-- Element `n` reads its start word at row `n` of the one-column list. -/
theorem gatherWeight_siIdx (n : Fin 1036800)
    (k : Fin gather_S1152_S1036800x1_S1036800_n_0_n_n_0_1_1.startIndexMap.length) :
    gather_S1152_S1036800x1_S1036800_n_0_n_n_0_1_1.siIdx (ix1 n) k = ix2 n 0 := by
  funext a
  match a with
  | ⟨0, _⟩ => rfl
  | ⟨1, _⟩ => exact Subsingleton.elim (α := Fin 1) _ _

/-- A start word in range is where the gather of weights reads. -/
theorem gatherWeight_apply (x : S1152.Idx → EReal) (idx : IVec S1036800x1 32) (n : Fin 1036800) (k : Nat)
    (hk : k < 1152) (h : (idx (ix2 n 0)).toInt = k) :
    Host.gather gather_S1152_S1036800x1_S1036800_n_0_n_n_0_1_1 x idx (ix1 n) = x (ix1 ⟨k, hk⟩) := by
  unfold Host.gather
  congr 1
  funext a
  match a with
  | ⟨0, _⟩ =>
    apply Fin.ext
    show min (idx (gather_S1152_S1036800x1_S1036800_n_0_n_n_0_1_1.siIdx (ix1 n) _)).toInt.toNat (1152 - 1) + 0 + 0 = k
    rw [gatherWeight_siIdx, h]
    omega

/-- Update row `n` is placed by row `n` of the one-column list. -/
theorem scatter_siIdx (b : Fin 32) (n : Fin 1036800)
    (k : Fin scatter_S32x14400_S1036800x1_S32x1036800_0_1_1_1.scatterDimsToOperandDims.length) :
    scatter_S32x14400_S1036800x1_S32x1036800_0_1_1_1.siIdx (ix2 b n) k = ix2 n 0 := by
  funext a
  match a with
  | ⟨0, _⟩ => rfl
  | ⟨1, _⟩ => exact Subsingleton.elim (α := Fin 1) _ _

/-- The update at image `b` and entry `n` lands at image `b`, the entry's column. -/
theorem scatter_resultIdx (idx : IVec S1036800x1 32) (b : Fin 32) (n : Fin 1036800) (k : Nat)
    (hk : k < 14400) (h : (idx (ix2 n 0)).toInt = k) :
    scatter_S32x14400_S1036800x1_S32x1036800_0_1_1_1.resultIdx? (ix2 b n) idx = some (ix2 b ⟨k, hk⟩) := by
  have e0 : scatter_S32x14400_S1036800x1_S32x1036800_0_1_1_1.start (ix2 b n) idx 0 = 0 := rfl
  have e1 : scatter_S32x14400_S1036800x1_S32x1036800_0_1_1_1.start (ix2 b n) idx 1 = k := by
    show (idx (scatter_S32x14400_S1036800x1_S32x1036800_0_1_1_1.siIdx (ix2 b n) _)).toInt = k
    rw [scatter_siIdx, h]
  have w0 : scatter_S32x14400_S1036800x1_S32x1036800_0_1_1_1.window (ix2 b n) 0 = b.val := rfl
  have w1 : scatter_S32x14400_S1036800x1_S32x1036800_0_1_1_1.window (ix2 b n) 1 = 0 := rfl
  have key : ∀ a, scatter_S32x14400_S1036800x1_S32x1036800_0_1_1_1.start (ix2 b n) idx a
      + (scatter_S32x14400_S1036800x1_S32x1036800_0_1_1_1.window (ix2 b n) a : Nat)
      = ((ix2 b (⟨k, hk⟩ : Fin 14400) : S32x14400.Idx) a).val := fun a => by
    match a with
    | ⟨0, _⟩ => exact (congrArg₂ (· + ·) e0 (congrArg Nat.cast w0)).trans (Int.zero_add _)
    | ⟨1, _⟩ => exact (congrArg₂ (· + ·) e1 (congrArg Nat.cast w1)).trans (Int.add_zero _)
  unfold ScatterDims.resultIdx?
  rw [dif_pos fun a => by rw [key a]; exact ⟨Int.natCast_nonneg _, Int.ofNat_lt.2 (Fin.isLt _)⟩]
  congr 1
  funext a
  apply Fin.ext
  dsimp only
  rw [key a, Int.toNat_natCast]

end Cert.ReferenceIdeal.Value

end
-- ==== Proof.RefValue.lean ====
module

public import proofs.«01_k».proof.Proof.Gen.ReferenceIdeal.Run
public import proofs.«01_k».proof.Proof.Moves
public import proofs.«01_k».proof.Proof.Spec
public import Idealize.ShloMosaic.Lib.Affine
public import Idealize.ShloMosaic.Lib.Pipeline.ValueKit

@[expose] public section

set_option maxRecDepth 16384

noncomputable section

/-! The reference's result, element by element, for index lists of the convolution's pattern: every index is in
    range, so each gather reads the entry named and no filler is selected, and the updates that land at one
    output element are the seventy-two consecutive entries of that element. -/

namespace Cert.ReferenceIdeal.Value

open Cert.ReferenceIdeal Cert.ReferenceIdeal.Gen Idealize.ShloMosaic Idealize.ShloMosaic.TcCoe Idealize.SL.Sem

/-- An index list as a column, a negative entry moved up by the extent `N`. -/
def column (v : IVec S1036800 32) (N : BitVec 32) : IVec S1036800x1 32 :=
  broadcastInDim S1036800x1 ![0] bcast_S1036800_S1036800x1_0
    (select (cmpi .slt v (broadcastInDim S1036800 ![] bcast_S_S1036800 (constantI S_ 32 0#32)))
      (addi v (broadcastInDim S1036800 ![] bcast_S_S1036800 (constantI S_ 32 N))) v)

/-- Which entries of a column are between 0 and `M`. -/
def inRange (idx : IVec S1036800x1 32) (M : BitVec 32) : IVec S1036800 1 :=
  Host.reduce IntOp.andi
    (andi (cmpi .sge idx (broadcastInDim S1036800x1 ![] bcast_S_S1036800x1 (constantI S_ 32 0#32)))
      (cmpi .sle idx (broadcastInDim S1036800x1 ![0, 1] bcast_S1x1_S1036800x1_0_1
        (broadcastInDim S1x1 ![1] bcast_S1_S1x1_1 (constantI S1 32 M)))))
    (constantI S_ 1 1#1) reducesTo_S1036800x1_S1036800_d1 h_S_

/-- The weights taken along the list. -/
def takenWeights (w : FVec Ideal S1152 .f32) (pidx : IVec S1036800 32) : FVec Ideal S1036800 .f32 :=
  select (inRange (column pidx 1152#32) 1151#32)
    (Host.gather gather_S1152_S1036800x1_S1036800_n_0_n_n_0_1_1 w (column pidx 1152#32))
    (broadcastInDim S1036800 ![] bcast_S_S1036800 (constant S_ .f32 0x7FC00000#32))

/-- The image elements taken along the list. -/
def takenImage (x : FVec Ideal S32x8x32x32 .f32) (rows : IVec S1036800 32) : FVec Ideal S32x1036800 .f32 :=
  select (broadcastInDim S32x1036800 ![1] bcast_S1036800_S32x1036800_1 (inRange (column rows 8192#32) 8191#32))
    (Host.gather gather_S32x8192_S1036800x1_S32x1036800_0_1_n_n_1_1_321
      (shapeCast S32x8192 x shapeCasts_S32x8x32x32_S32x8192) (column rows 8192#32))
    (broadcastInDim S32x1036800 ![] bcast_S_S32x1036800 (constant S_ .f32 0x7FC00000#32))

/-- The products. -/
def products (x : FVec Ideal S32x8x32x32 .f32) (w : FVec Ideal S1152 .f32) (rows pidx : IVec S1036800 32) :
    FVec Ideal S32x1036800 .f32 :=
  mulf (takenImage x rows)
    (broadcastInDim S32x1036800 ![0, 1] bcast_S1x1036800_S32x1036800_0_1
      (broadcastInDim S1x1036800 ![1] bcast_S1036800_S1x1036800_1 (takenWeights w pidx)))

/-- The products added up at their columns. -/
def summed (x : FVec Ideal S32x8x32x32 .f32) (w : FVec Ideal S1152 .f32) (rows cols pidx : IVec S1036800 32) :
    FVec Ideal S32x14400 .f32 :=
  Host.scatterAdd scatter_S32x14400_S1036800x1_S32x1036800_0_1_1_1
    (broadcastInDim S32x14400 ![] bcast_S_S32x14400 (constant S_ .f32 0x00000000#32)) (column cols 14400#32)
    (products x w rows pidx)

/-- A selection where its condition holds. -/
theorem select_of_one {s : Shape} {α : Type} (p : IVec s 1) (t e : s.Idx → α) (i : s.Idx) (h : p i = 1#1) :
    select p t e i = t i := if_pos h

section Lists

variable {v : IVec S1036800 32} {f : Fin 1036800 → Nat} {K : Nat}

/-- A word below two to the thirty-first reads as itself. -/
theorem toInt_ofNat {k : Nat} (hk : k < 2147483648) : (BitVec.ofNat 32 k).toInt = k := by
  rw [BitVec.toInt_eq_toNat_of_lt] <;> rw [BitVec.toNat_ofNat, Nat.mod_eq_of_lt] <;> omega

/-- A list of small entries is its own column. -/
theorem column_toInt (hv : ∀ n, v (ix1 n) = BitVec.ofNat 32 (f n)) (hf : ∀ n, f n < K) (hK : K ≤ 2147483648)
    (N : BitVec 32) (n : Fin 1036800) : (column v N (ix2 n 0)).toInt = f n := by
  have hn : f n < 2147483648 := lt_of_lt_of_le (hf n) hK
  have e : column v N (ix2 n 0) = BitVec.ofNat 32 (f n) := by
    unfold column
    pointwise
    rw [hv n]
    have hc : IntOp.cmpi .slt (BitVec.ofNat 32 (f n)) 0#32 ≠ 1#1 := by
      rw [Ne, IntOp.cmpi_slt, toInt_ofNat hn]
      show ¬ ((f n : Int) < 0)
      omega
    exact if_neg hc
  rw [e, toInt_ofNat hn]

/-- A list of small entries is in range everywhere. -/
theorem inRange_apply (hv : ∀ n, v (ix1 n) = BitVec.ofNat 32 (f n)) (hf : ∀ n, f n < K) (hK : K ≤ 2147483648)
    (N M : BitVec 32) (hM : M.toInt = (K : Int) - 1) (n : Fin 1036800) : inRange (column v N) M (ix1 n) = 1#1 := by
  unfold inRange
  refine Host.reduce_andi_one _ _ _ _ _ rfl fun i => ?_
  obtain ⟨p, rfl⟩ : ∃ p : Fin 1036800, i = ix2 p 0 :=
    ⟨i 0, (eq_ix2 i).trans (congrArg (ix2 (i 0)) (Subsingleton.elim (α := Fin 1) _ _))⟩
  have h := column_toInt hv hf hK N p
  have hp := hf p
  refine IntOp.andi_eq_one.2 ⟨IntOp.cmpi_sge.2 ?_, IntOp.cmpi_sle.2 ?_⟩
  · rw [h]
    exact Int.natCast_nonneg _
  · rw [h]
    show (f p : Int) ≤ M.toInt
    omega

end Lists

section Pattern

variable {x : FVec Ideal S32x8x32x32 .f32} {w : FVec Ideal S1152 .f32} {rows cols pidx : IVec S1036800 32}

/-- Where in one flattened image entry `n` of the list points. -/
def row (n : Fin 1036800) : Nat :=
  (n.val / 2160 % 30 + n.val / 3 % 3) * 32 + n.val / 72 % 30 + n.val / 9 % 8 * 1024 + n.val % 3

/-- Which weight entry `n` of the list takes. -/
def weight (n : Fin 1036800) : Nat := (8 * (n.val / 64800) + n.val / 9 % 8) * 9 + n.val % 9

/-- Which is inside the image. -/
theorem row_lt (n : Fin 1036800) : row n < 8192 := by
  unfold row
  omega

/-- Which is one of the weights. -/
theorem weight_lt (n : Fin 1036800) : weight n < 1152 := by
  have := n.isLt
  unfold weight
  omega

/-- A weight taken along the list. -/
theorem takenWeights_apply (hp : ∀ n, pidx (ix1 n) = BitVec.ofNat 32 (weight n)) (n : Fin 1036800) :
    takenWeights w pidx (ix1 n) = w (ix1 ⟨weight n, weight_lt n⟩) := by
  have h1 := inRange_apply hp weight_lt (by norm_num) 1152#32 1151#32 (by decide) n
  have h2 := gatherWeight_apply w (column pidx 1152#32) n (weight n) (weight_lt n)
    (column_toInt hp weight_lt (by norm_num) 1152#32 n)
  exact (select_of_one _ _ _ _ h1).trans h2

/-- An image element taken along the list. -/
theorem takenImage_apply (hr : ∀ n, rows (ix1 n) = BitVec.ofNat 32 (row n)) (b : Fin 32) (n : Fin 1036800) :
    takenImage x rows (ix2 b n) = shapeCast S32x8192 x shapeCasts_S32x8x32x32_S32x8192 (ix2 b ⟨row n, row_lt n⟩) := by
  have h1 := inRange_apply hr row_lt (by norm_num) 8192#32 8191#32 (by decide) n
  have h2 := gatherImage_apply (shapeCast S32x8192 x shapeCasts_S32x8x32x32_S32x8192) (column rows 8192#32) b n
    (row n) (row_lt n) (column_toInt hr row_lt (by norm_num) 8192#32 n)
  have h3 : broadcastInDim S32x1036800 ![1] bcast_S1036800_S32x1036800_1 (inRange (column rows 8192#32) 8191#32)
      (ix2 b n) = 1#1 := by
    refine Eq.trans ?_ h1
    generalize inRange (column rows 8192#32) 8191#32 = g
    pointwise
  exact (select_of_one _ _ _ _ h3).trans h2

/-- A flattened image at an index. -/
theorem flatImage_apply (b : Fin 32) (k : Fin 8192) :
    shapeCast S32x8192 x shapeCasts_S32x8x32x32_S32x8192 (ix2 b k)
      = x (ix4 b ⟨k.val / 1024, by omega⟩ ⟨k.val / 32 % 32, by omega⟩ ⟨k.val % 32, by omega⟩) := by
  pointwise

/-- A product with a row spread over the batch. -/
theorem mulf_row (g : FVec Ideal S32x1036800 .f32) (g' : FVec Ideal S1036800 .f32) (b : Fin 32) (n : Fin 1036800) :
    mulf g (broadcastInDim S32x1036800 ![0, 1] bcast_S1x1036800_S32x1036800_0_1
      (broadcastInDim S1x1036800 ![1] bcast_S1036800_S1x1036800_1 g')) (ix2 b n) = g (ix2 b n) * g' (ix1 n) := by
  pointwise

/-- A product: entry `p * 72 + (c * 9 + s)` is one term of the convolution at the output element `p`. -/
theorem products_apply (hr : ∀ n, rows (ix1 n) = BitVec.ofNat 32 (row n))
    (hp : ∀ n, pidx (ix1 n) = BitVec.ofNat 32 (weight n)) (b : Fin 32) (y : Fin 16) (i j : Fin 30) (c : Fin 8)
    (s : Fin 9) (n : Fin 1036800) (hn : n.val = ((y.val * 30 + i.val) * 30 + j.val) * 72 + (c.val * 9 + s.val)) :
    products x w rows pidx (ix2 b n) = Conv.term x w b y i j s c := by
  have e : products x w rows pidx (ix2 b n) = takenImage x rows (ix2 b n) * takenWeights w pidx (ix1 n) := by
    unfold products
    rw [mulf_row]
  rw [e, takenWeights_apply hp, takenImage_apply hr, flatImage_apply]
  unfold Conv.term
  refine congrArg₂ (· * ·) (congrArg x ?_) (congrArg w ?_)
  · have hrow : row n = (i.val + s.val / 3) * 32 + j.val + c.val * 1024 + s.val % 3 := by
      unfold row
      rw [show n.val / 2160 % 30 = i.val by omega, show n.val / 3 % 3 = s.val / 3 by omega,
        show n.val / 72 % 30 = j.val by omega, show n.val / 9 % 8 = c.val by omega,
        show n.val % 3 = s.val % 3 by omega]
    have h1 : row n / 1024 = c.val := by omega
    have h0 : row n / 32 = c.val * 32 + (i.val + s.val / 3) := by omega
    have h2 : row n / 32 % 32 = i.val + s.val / 3 := by omega
    have h3 : row n % 32 = j.val + s.val % 3 := by omega
    simp only [h1, h2, h3]
  · have h1 : weight n = (8 * y.val + c.val) * 9 + s.val := by
      unfold weight
      rw [show n.val / 64800 = y.val by omega, show n.val / 9 % 8 = c.val by omega,
        show n.val % 9 = s.val by omega]
    simp only [h1]

/-- The updates that land at one output element are seventy-two consecutive ones. -/
theorem sum_landing (hc : ∀ n, cols (ix1 n) = BitVec.ofNat 32 (n.val / 72)) (u : S32x1036800.Idx → EReal)
    (b : Fin 32) (p : Fin 14400) :
    (∑ q ∈ Finset.univ.filter (fun q => scatter_S32x14400_S1036800x1_S32x1036800_0_1_1_1.resultIdx? q
      (column cols 14400#32) = some (ix2 b p)), u q) = ∑ r : Fin 72, u (ix2 b ⟨p.val * 72 + r.val, by omega⟩) := by
  have land (b' : Fin 32) (n : Fin 1036800) :
      scatter_S32x14400_S1036800x1_S32x1036800_0_1_1_1.resultIdx? (ix2 b' n) (column cols 14400#32)
        = some (ix2 b' ⟨n.val / 72, by omega⟩) :=
    scatter_resultIdx (column cols 14400#32) b' n (n.val / 72) (by omega)
      (column_toInt (f := fun n => n.val / 72) (K := 14400) hc (fun n => by omega) (by norm_num) 14400#32 n)
  symm
  refine Finset.sum_bij (fun r _ => ix2 b ⟨p.val * 72 + r.val, by omega⟩) (fun r _ => ?_) (fun r _ r' _ h => ?_)
    (fun q hq => ?_) (fun _ _ => rfl)
  · rw [Finset.mem_filter]
    refine ⟨Finset.mem_univ _, (land b _).trans ?_⟩
    congr 2
    apply Fin.ext
    show (p.val * 72 + r.val) / 72 = p.val
    omega
  · have h1 : p.val * 72 + r.val = p.val * 72 + r'.val := congrArg (fun q : S32x1036800.Idx => (q 1).val) h
    apply Fin.ext
    omega
  · obtain ⟨b', n, rfl⟩ : ∃ (b' : Fin 32) (n : Fin 1036800), q = ix2 b' n := ⟨q 0, q 1, eq_ix2 q⟩
    have h := (land b' n).symm.trans (Finset.mem_filter.1 hq).2
    have h' := Option.some.inj h
    have hb : b' = b := congrArg (fun q : S32x14400.Idx => q 0) h'
    have hn : n.val / 72 = p.val := congrArg (fun q : S32x14400.Idx => (q 1).val) h'
    refine ⟨⟨n.val % 72, by omega⟩, Finset.mem_univ _, ?_⟩
    subst hb
    congr 1
    apply Fin.ext
    show p.val * 72 + n.val % 72 = n.val
    omega

/-- An addition at indices: what was there and the updates that land there. -/
theorem scatterAdd_apply (z : FVec Ideal S32x14400 .f32) (idx : IVec S1036800x1 32) (u : FVec Ideal S32x1036800 .f32)
    (q : S32x14400.Idx) :
    (Host.scatterAdd scatter_S32x14400_S1036800x1_S32x1036800_0_1_1_1 z idx u : FVec Ideal S32x14400 .f32) q
      = z q + ∑ r ∈ Finset.univ.filter (fun r =>
          scatter_S32x14400_S1036800x1_S32x1036800_0_1_1_1.resultIdx? r idx = some q), u r := by
  unfold Host.scatterAdd
  rw [Ideal.hostScatterAdd_def]
  unfold Ideal.hostScatterAdd
  rfl

/-- The zeros the products are added to. -/
theorem zeros_apply (q : S32x14400.Idx) :
    (broadcastInDim S32x14400 ![] bcast_S_S32x14400 (constant S_ .f32 0x00000000#32) : FVec Ideal S32x14400 .f32) q
      = 0 := by
  pointwise

/-- The sum at one output element is the convolution's. -/
theorem summed_apply (hr : ∀ n, rows (ix1 n) = BitVec.ofNat 32 (row n))
    (hc : ∀ n, cols (ix1 n) = BitVec.ofNat 32 (n.val / 72)) (hp : ∀ n, pidx (ix1 n) = BitVec.ofNat 32 (weight n))
    (b : Fin 32) (y : Fin 16) (i j : Fin 30) (p : Fin 14400) (h : p.val = (y.val * 30 + i.val) * 30 + j.val) :
    summed x w rows cols pidx (ix2 b p) = ∑ s : Fin 9, ∑ c : Fin 8, Conv.term x w b y i j s c := by
  unfold summed
  rw [scatterAdd_apply, zeros_apply, zero_add, sum_landing hc, Finset.sum_comm]
  exact (Fin.sum_mul_add_congr (S := 8) (n := 9)
    (f := fun r : Fin 72 => products x w rows pidx (ix2 b ⟨p.val * 72 + r.val, by omega⟩))
    (fun c s hl => (products_apply hr hp b y i j c s _ (by dsimp only; rw [h])).symm)).symm

end Pattern

/-- The sums given the result's axes, with the bias added. -/
theorem withBias_apply (g : FVec Ideal S32x14400 .f32) (bias : FVec Ideal S16 .f32) (b : Fin 32) (y : Fin 16)
    (i j : Fin 30) :
    addf (F := Ideal) (φ := .f32) (shapeCast S32x16x30x30 g shapeCasts_S32x14400_S32x16x30x30)
        (broadcastInDim S32x16x30x30 ![0, 1, 2, 3] bcast_S1x16x1x1_S32x16x30x30_0_1_2_3
          (broadcastInDim S1x16x1x1 ![1] bcast_S16_S1x16x1x1_1 bias)) (ix4 b y i j)
      = g (ix2 b ⟨(y.val * 30 + i.val) * 30 + j.val, by omega⟩) + bias (ix1 y) := by
  pointwise
  refine congrArg (fun k => g (ix2 b k) + _) (Fin.ext ?_)
  show y.val * 900 + i.val * 30 + j.val = (y.val * 30 + i.val) * 30 + j.val
  omega

/-- The reference's result under the convolution's pattern. -/
theorem res_apply (m : (ℓ : Loc nD τ sig) → Buf (Elt Ideal) ℓ) (c : Dev nD)
    (hr : ∀ n, (m ((c.tc : Thread nD τ).loc main_arg3) : IVec S1036800 32) (ix1 n) = BitVec.ofNat 32 (row n))
    (hc : ∀ n, (m ((c.tc : Thread nD τ).loc main_arg4) : IVec S1036800 32) (ix1 n) = BitVec.ofNat 32 (n.val / 72))
    (hp : ∀ n, (m ((c.tc : Thread nD τ).loc main_arg5) : IVec S1036800 32) (ix1 n) = BitVec.ofNat 32 (weight n))
    (b : Fin 32) (y : Fin 16) (i j : Fin 30) :
    (res_main_v17 m c : S32x16x30x30.Idx → EReal) (ix4 b y i j)
      = Conv.conv (m ((c.tc : Thread nD τ).loc main_arg0)) (m ((c.tc : Thread nD τ).loc main_arg1))
          (m ((c.tc : Thread nD τ).loc main_arg2)) b y i j := by
  have e : (res_main_v17 m c : S32x16x30x30.Idx → EReal)
      = addf (F := Ideal) (φ := .f32) (shapeCast S32x16x30x30 (summed (m ((c.tc : Thread nD τ).loc main_arg0))
            (m ((c.tc : Thread nD τ).loc main_arg1)) (m ((c.tc : Thread nD τ).loc main_arg3))
            (m ((c.tc : Thread nD τ).loc main_arg4)) (m ((c.tc : Thread nD τ).loc main_arg5)))
          shapeCasts_S32x14400_S32x16x30x30)
        (broadcastInDim S32x16x30x30 ![0, 1, 2, 3] bcast_S1x16x1x1_S32x16x30x30_0_1_2_3
          (broadcastInDim S1x16x1x1 ![1] bcast_S16_S1x16x1x1_1 (m ((c.tc : Thread nD τ).loc main_arg2)))) := by
    unfold res_main_v17 summed products takenImage takenWeights inRange column
    rfl
  rw [e]
  unfold Conv.conv
  rw [← summed_apply hr hc hp b y i j ⟨(y.val * 30 + i.val) * 30 + j.val, by omega⟩ rfl]
  exact withBias_apply _ _ b y i j

end Cert.ReferenceIdeal.Value

end
-- ==== Proof.Pattern.lean ====
module

public import proofs.«01_k».proof.Proof.Gen.Pre_conv_pattern
public import Idealize.ShloMosaic.Lib.Pointwise
public import Idealize.ShloMosaic.Lib.ReduceAll
public import Idealize.ShloMosaic.Lib.Affine

@[expose] public section

set_option maxRecDepth 16384

noncomputable section

/-! What the precondition says of the three index lists, entry by entry: entry `n` stands for output channel
    `n / 64800`, output row `n / 2160 % 30`, output column `n / 72 % 30`, input channel `n / 9 % 8` and window
    position `n % 9`. -/

namespace Cert.Conv

open Idealize.ShloMosaic

/-- The three lists, entry by entry. -/
theorem pattern (x : FVec Ideal Pre_conv_pattern.S32x8x32x32 .f32) (w : FVec Ideal Pre_conv_pattern.S1152 .f32)
    (b : FVec Ideal Pre_conv_pattern.S16 .f32) (rows cols pidx : IVec Pre_conv_pattern.S1036800 32)
    (h : Pre_conv_pattern.fn (F := Ideal) x w b rows cols pidx = fun _ => 1#1) (n : Fin 1036800) :
    rows (ix1 n) = BitVec.ofNat 32 ((n.val / 2160 % 30 + n.val / 3 % 3) * 32 + n.val / 72 % 30 + n.val / 9 % 8 * 1024 + n.val % 3)
    ∧ cols (ix1 n) = BitVec.ofNat 32 (n.val / 72)
    ∧ pidx (ix1 n) = BitVec.ofNat 32 ((8 * (n.val / 64800) + n.val / 9 % 8) * 9 + n.val % 9) := by
  have h0 := congrFun h ix0
  unfold Pre_conv_pattern.fn Pre_conv_pattern.fn_part1 Pre_conv_pattern.fn_part2 at h0
  obtain ⟨h1, hp⟩ := IntOp.andi_eq_one.1 h0
  obtain ⟨hr, hc⟩ := IntOp.andi_eq_one.1 h1
  have hr' := IntOp.cmpi_eq.1 (Host.reduce_andi_all _ _ _ _ _ hr (ix1 n))
  have hc' := IntOp.cmpi_eq.1 (Host.reduce_andi_all _ _ _ _ _ hc (ix1 n))
  have hp' := IntOp.cmpi_eq.1 (Host.reduce_andi_all _ _ _ _ _ hp (ix1 n))
  clear h h0 h1 hr hc hp
  rw [hr', hc', hp']
  clear hr' hc' hp'
  pointwise
  simp only [IntOp.addi, IntOp.muli, ← BitVec.ofNat_add, ← BitVec.ofNat_mul]
  exact ⟨trivial, congrArg (BitVec.ofNat 32) (by omega), congrArg (BitVec.ofNat 32) (by omega)⟩

end Cert.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_conv_pattern
public import proofs.«01_k».proof.Proof.KernelValue
public import proofs.«01_k».proof.Proof.RefValue
public import proofs.«01_k».proof.Proof.Pattern
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The convolution as an array. -/
def convArray (x : Cert.KernelIdeal.S32x8x32x32.Idx → EReal) (w : Cert.KernelIdeal.S1152.Idx → EReal)
    (bias : Cert.KernelIdeal.S16.Idx → EReal) : Cert.KernelIdeal.S32x16x30x30.Idx → EReal :=
  fun q => Cert.Conv.conv x w bias (q 0) (q 1) (q 2) (q 3)

/-- The reference runs, leaves its arguments and ends with every counter at zero: it has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2, sem_eq_zero_of_no_sems (by decide) r.2⟩)
    (Cert.ReferenceIdeal.Value.run (F := Ideal) m g)

/-- The kernel's result buffer ends as the convolution. -/
theorem kernel_result (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v8)
          = convArray (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))) := by
  refine (θ_run _ _ _).mono (fun r h c => ?_) (Cert.KernelIdeal.Gen.run_main (F := Ideal) m g)
  refine ((h c).2 Cert.KernelIdeal.main_v8
    (Pipeline.mem_restRefs_of Cert.KernelIdeal.main_v8 (by decide) (by decide))).trans (funext fun q => ?_)
  exact (congrArg _ (eq_ix4 q)).trans (Cert.KernelIdeal.Value.tail_value m c (q 0) (q 1) (q 2) (q 3))

/-- Under the pattern both programs end with the convolution of the common arguments. -/
theorem same_result : Cert.algebraic_KernelIdeal_ReferenceIdeal_pre_conv_pattern
    (hKernelIdeal := Cert.KernelIdeal.Gen.facts) (hReferenceIdeal := Cert.ReferenceIdeal.Gen.facts)
    (hPre_conv_pattern := Cert.Pre_conv_pattern.Gen.facts) := by
  intro m g m' g' hpre hargs
  refine ⟨fun c => convArray (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun r h c => ⟨h.1 c, h.2 c⟩)
      (θ_run_and (kernel_result m g) (Cert.KernelIdeal.Gen.unchanged (F := Ideal) m g))
  · refine (θ_run _ _ _).mono (fun r h c => ⟨(h c).1.trans ?_, (h c).2⟩) (Cert.ReferenceIdeal.Value.run (F := Ideal) m' g')
    obtain ⟨h0, h1, h2, h3, h4, h5⟩ := hargs c
    have hpat := Cert.Conv.pattern _ _ _ _ _ _ (hpre c)
    refine funext fun q => (congrArg _ (eq_ix4 q)).trans ?_
    refine (Cert.ReferenceIdeal.Value.res_apply m' c (fun n => ?_) (fun n => ?_) (fun n => ?_)
      (q 0) (q 1) (q 2) (q 3)).trans ?_
    · exact (congrFun h3 (ix1 n)).trans (hpat n).1
    · exact (congrFun h4 (ix1 n)).trans (hpat n).2.1
    · exact (congrFun h5 (ix1 n)).trans (hpat n).2.2
    · unfold convArray
      rw [h0, h1, h2]

theorem claim : Cert.Claim := ⟨Cert.Kernel.Gen.facts, Cert.KernelIdeal.Gen.facts, Cert.ReferenceIdeal.Gen.facts,
  Cert.Pre_conv_pattern.Gen.facts, fun m g _ => Cert.Kernel.Gen.frame (F := Bits) m g,
  fun m g _ => Cert.KernelIdeal.Gen.frame (F := Ideal) m g, fun m g _ => Cert.KernelIdeal.Gen.frame (F := Ideal) m g,
  fun m g _ => reference_frame m g, fun m g _ => reference_frame m g, trivial, same_result⟩

end Cert.Proof

end
